-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x8960 : Shape := ⟨3, ![192, 1, 8960]⟩
abbrev S4480x5120 : Shape := ⟨2, ![4480, 5120]⟩
abbrev S70x5120 : Shape := ⟨2, ![70, 5120]⟩
abbrev S192x8960 : Shape := ⟨2, ![192, 8960]⟩
abbrev S192x5120 : Shape := ⟨2, ![192, 5120]⟩
abbrev S4480x1024 : Shape := ⟨2, ![4480, 1024]⟩
abbrev S70x1024 : Shape := ⟨2, ![70, 1024]⟩
abbrev S192x1024 : Shape := ⟨2, ![192, 1024]⟩
abbrev S4480x1x1024 : Shape := ⟨3, ![4480, 1, 1024]⟩
abbrev S4480x2x1024 : Shape := ⟨3, ![4480, 2, 1024]⟩
abbrev S8960x1024 : Shape := ⟨2, ![8960, 1024]⟩
abbrev S70x128x1024 : Shape := ⟨3, ![70, 128, 1024]⟩
abbrev S70x1x1024 : Shape := ⟨3, ![70, 1, 1024]⟩
abbrev S192x1x5120 : Shape := ⟨3, ![192, 1, 5120]⟩

abbrev nBuf : Space → Nat
  | .hbm => 7
  | .vmem => 9
  | .smem => 0
  | _ => 0

abbrev bufTy : (tb : Table) → Fin (tcTables nBuf tb) → BufTy
  | .hbm, ⟨0, _⟩ => ⟨S192x1x8960, .bf16⟩
  | .hbm, ⟨1, _⟩ => ⟨S4480x5120, .i8⟩
  | .hbm, ⟨2, _⟩ => ⟨S70x5120, .bf16⟩
  | .hbm, ⟨3, _⟩ => ⟨S70x5120, .i8⟩
  | .hbm, ⟨4, _⟩ => ⟨S192x8960, .bf16⟩
  | .hbm, ⟨5, _⟩ => ⟨S192x5120, .bf16⟩
  | .hbm, ⟨6, _⟩ => ⟨S192x1x5120, .bf16⟩
  | .local _ .vmem, ⟨0, _⟩ => ⟨S192x8960, .bf16⟩
  | .local _ .vmem, ⟨1, _⟩ => ⟨S4480x1024, .i8⟩
  | .local _ .vmem, ⟨2, _⟩ => ⟨S4480x1024, .i8⟩
  | .local _ .vmem, ⟨3, _⟩ => ⟨S70x1024, .bf16⟩
  | .local _ .vmem, ⟨4, _⟩ => ⟨S70x1024, .bf16⟩
  | .local _ .vmem, ⟨5, _⟩ => ⟨S70x1024, .i8⟩
  | .local _ .vmem, ⟨6, _⟩ => ⟨S70x1024, .i8⟩
  | .local _ .vmem, ⟨7, _⟩ => ⟨S192x1024, .bf16⟩
  | .local _ .vmem, ⟨8, _⟩ => ⟨S192x1024, .bf16⟩
  | _, _ => ⟨S192x1x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x8960 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4480x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S70x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S70x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S192x1x8960 : Shape := ⟨3, ![192, 1, 8960]⟩
abbrev S4480x5120 : Shape := ⟨2, ![4480, 5120]⟩
abbrev S70x5120 : Shape := ⟨2, ![70, 5120]⟩
abbrev S_ : Shape := ⟨0, ![]⟩
abbrev S4480x1x5120 : Shape := ⟨3, ![4480, 1, 5120]⟩
abbrev S4480x2x5120 : Shape := ⟨3, ![4480, 2, 5120]⟩
abbrev S70x128x5120 : Shape := ⟨3, ![70, 128, 5120]⟩
abbrev S70x1x5120 : Shape := ⟨3, ![70, 1, 5120]⟩
abbrev S8960x5120 : Shape := ⟨2, ![8960, 5120]⟩
abbrev S192x1x5120 : Shape := ⟨3, ![192, 1, 5120]⟩

abbrev nBuf : Space → Nat
  | .hbm => 27
  | .vmem => 0
  | .smem => 0
  | _ => 0

abbrev bufTy : (tb : Table) → Fin (tcTables nBuf tb) → BufTy
  | .hbm, ⟨0, _⟩ => ⟨S192x1x8960, .bf16⟩
  | .hbm, ⟨1, _⟩ => ⟨S4480x5120, .i8⟩
  | .hbm, ⟨2, _⟩ => ⟨S70x5120, .bf16⟩
  | .hbm, ⟨3, _⟩ => ⟨S70x5120, .i8⟩
  | .hbm, ⟨4, _⟩ => ⟨S4480x5120, .i32⟩
  | .hbm, ⟨5, _⟩ => ⟨S_, .i32⟩
  | .hbm, ⟨6, _⟩ => ⟨S4480x5120, .i32⟩
  | .hbm, ⟨7, _⟩ => ⟨S4480x5120, .i32⟩
  | .hbm, ⟨8, _⟩ => ⟨S_, .i32⟩
  | .hbm, ⟨9, _⟩ => ⟨S4480x5120, .i32⟩
  | .hbm, ⟨10, _⟩ => ⟨S4480x5120, .i32⟩
  | .hbm, ⟨11, _⟩ => ⟨S4480x1x5120, .i32⟩
  | .hbm, ⟨12, _⟩ => ⟨S4480x1x5120, .i32⟩
  | .hbm, ⟨13, _⟩ => ⟨S4480x2x5120, .i32⟩
  | .hbm, ⟨14, _⟩ => ⟨S70x128x5120, .i32⟩
  | .hbm, ⟨15, _⟩ => ⟨S70x128x5120, .bf16⟩
  | .hbm, ⟨16, _⟩ => ⟨S70x5120, .i32⟩
  | .hbm, ⟨17, _⟩ => ⟨S70x5120, .bf16⟩
  | .hbm, ⟨18, _⟩ => ⟨S70x1x5120, .bf16⟩
  | .hbm, ⟨19, _⟩ => ⟨S70x128x5120, .bf16⟩
  | .hbm, ⟨20, _⟩ => ⟨S70x128x5120, .bf16⟩
  | .hbm, ⟨21, _⟩ => ⟨S70x1x5120, .bf16⟩
  | .hbm, ⟨22, _⟩ => ⟨S70x128x5120, .bf16⟩
  | .hbm, ⟨23, _⟩ => ⟨S70x128x5120, .bf16⟩
  | .hbm, ⟨24, _⟩ => ⟨S8960x5120, .bf16⟩
  | .hbm, ⟨25, _⟩ => ⟨S192x1x5120, .f32⟩
  | .hbm, ⟨26, _⟩ => ⟨S192x1x5120, .bf16⟩
  | _, _ => ⟨S192x1x8960, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.Nibbles.lean ====
/- The two readings of a 4-bit code: the kernel reads it as an unsigned 4-bit number, the reference as a signed 32-bit one.
   Hand-written. -/
module

public import Idealize.ShloMosaic.PureOps.Ideal
public import Idealize.ShloMosaic.PureOps.Vector

@[expose] public section

noncomputable section

namespace Cert.Nibbles

open Idealize.ShloMosaic

/-- Masking a widened byte with 15 leaves a word whose low four bits, read unsigned, are the word itself, read signed. -/
theorem low_bits : ∀ b : BitVec 8,
    ((BitVec.setWidth 4 (IntOp.andi (BitVec.setWidth 32 b) 15#32)).toNat : Int)
      = (IntOp.andi (BitVec.setWidth 32 b) 15#32).toInt := by decide +kernel

/-- Shifting a widened byte right by four, on the vector unit, leaves a word whose low four bits, read unsigned, are the same
    shift of the host, read signed. -/
theorem high_bits : ∀ b : BitVec 8,
    ((BitVec.setWidth 4 (IntOp.shrsi .vector (BitVec.setWidth 32 b) 4#32)).toNat : Int)
      = (IntOp.shrsi .host (BitVec.setWidth 32 b) 4#32).toInt := by decide +kernel

/-- A byte read unsigned is the widened byte read signed. -/
theorem byte_bits : ∀ b : BitVec 8, (b.toNat : Int) = (BitVec.setWidth 32 b).toInt := by decide +kernel

/-- An unsigned conversion and a signed one give the same number where the two words denote the same integer. -/
theorem uitofp_eq_sitofp {w v : Nat} (φ : FTy) (a : BitVec w) (b : BitVec v) (h : (a.toNat : Int) = b.toInt) :
    (FloatOps.uitofp φ a : Ideal φ) = FloatOps.sitofp φ b := by
  show (((a.toNat : ℝ)) : EReal) = ((b.toInt : ℝ) : EReal)
  rw [← h, Int.cast_natCast]

/-- The low nibble converts to the same number from the kernel's 4-bit word and from the reference's 32-bit one. -/
theorem low_nibble (φ : FTy) (b : BitVec 8) :
    (FloatOps.uitofp φ (BitVec.setWidth 4 (IntOp.andi (BitVec.setWidth 32 b) 15#32)) : Ideal φ)
      = FloatOps.sitofp φ (IntOp.andi (BitVec.setWidth 32 b) 15#32) := uitofp_eq_sitofp φ _ _ (low_bits b)

/-- The high nibble converts to the same number from the kernel's 4-bit word and from the reference's 32-bit one. -/
theorem high_nibble (φ : FTy) (b : BitVec 8) :
    (FloatOps.uitofp φ (BitVec.setWidth 4 (IntOp.shrsi .vector (BitVec.setWidth 32 b) 4#32)) : Ideal φ)
      = FloatOps.sitofp φ (IntOp.shrsi .host (BitVec.setWidth 32 b) 4#32) := uitofp_eq_sitofp φ _ _ (high_bits b)

/-- A zero point converts to the same number from its byte and from the byte widened to 32 bits. -/
theorem zero_point (φ : FTy) (b : BitVec 8) :
    (FloatOps.uitofp φ b : Ideal φ) = FloatOps.sitofp φ (BitVec.setWidth 32 b) := uitofp_eq_sitofp φ _ _ (byte_bits b)

end Cert.Nibbles

end
-- ==== Proof.Reference.lean ====
/- The reference's result as one function of its four arguments, and its value at an index. Hand-written. -/
module

public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.ReferenceIdeal.Value

open Idealize.ShloMosaic Idealize.SL.Sem Cert.ReferenceIdeal Cert.ReferenceIdeal.Gen

/-- The linear layer: the activations `x` times the weights `(code - zero) * scale`, a code being one nibble of `w` and a row of
    128 codes sharing one zero point of `z` and one scale of `s`. -/
def linear (x : FVec Ideal S192x1x8960 .bf16) (w : IVec S4480x5120 8) (s : FVec Ideal S70x5120 .bf16) (z : IVec S70x5120 8) :
    FVec Ideal S192x1x5120 .bf16 :=
  truncf .bf16 (Host.dotGeneral dot_S192x1x8960_S8960x5120_S192x1x5120_2_0_01_1_n_n none x (shapeCast _ (mulf (subf (sitofp .bf16 (shapeCast _ (concatenate S4480x2x5120 1 [⟨S4480x1x5120, (broadcastInDim S4480x1x5120 ![0, 2] bcast_S4480x5120_S4480x1x5120_0_2 (andi (extui 32 w natLt_8_32) (broadcastInDim S4480x5120 ![] bcast_S_S4480x5120 (constantI S_ 32 15#32))))⟩, ⟨S4480x1x5120, (broadcastInDim S4480x1x5120 ![0, 2] bcast_S4480x5120_S4480x1x5120_0_2 (Host.shrsi (extui 32 w natLt_8_32) (broadcastInDim S4480x5120 ![] bcast_S_S4480x5120 (constantI S_ 32 4#32))))⟩] concatenates_S4480x1x5120_S4480x1x5120_S4480x2x5120_d1) shapeCasts_S4480x2x5120_S70x128x5120)) (broadcastInDim S70x128x5120 ![0, 1, 2] bcast_S70x1x5120_S70x128x5120_0_1_2 (broadcastInDim S70x1x5120 ![0, 2] bcast_S70x5120_S70x1x5120_0_2 (sitofp .bf16 (extui 32 z natLt_8_32))))) (broadcastInDim S70x128x5120 ![0, 1, 2] bcast_S70x1x5120_S70x128x5120_0_1_2 (broadcastInDim S70x1x5120 ![0, 2] bcast_S70x5120_S70x1x5120_0_2 s))) shapeCasts_S70x128x5120_S8960x5120)) bitsLt_bf16_f32

/-- The reference's result at an index: the inner product of a row of activations with a column of weights, an even row of the
    weights being the low nibble of its byte and an odd row the high nibble. -/
theorem linear_at (x : FVec Ideal S192x1x8960 .bf16) (w : IVec S4480x5120 8) (s : FVec Ideal S70x5120 .bf16)
    (z : IVec S70x5120 8) (b : Fin 192) (u : Fin 1) (n : Fin 5120) :
    linear x w s z (ix3 b u n) = ∑ k : Fin 8960, x (ix3 b u k) *
      (((FloatOps.sitofp .bf16 (if k.val % 2 < 1
          then IntOp.andi (BitVec.setWidth 32 (w (ix2 (⟨k.val / 2, by omega⟩ : Fin 4480) n))) 15#32
          else IntOp.shrsi .host (BitVec.setWidth 32 (w (ix2 (⟨k.val / 2, by omega⟩ : Fin 4480) n))) 4#32) : Ideal .bf16)
        - FloatOps.sitofp .bf16 (BitVec.setWidth 32 (z (ix2 (⟨k.val / 128, by omega⟩ : Fin 70) n))))
        * s (ix2 (⟨k.val / 128, by omega⟩ : Fin 70) n)) := by
  pointwise [linear]
  refine Finset.sum_congr rfl fun k _ => ?_
  have hp : k.val % 128 % 2 = k.val % 2 := by omega
  have hr : k.val / 128 * 64 + k.val % 128 / 2 = k.val / 2 := by omega
  simp only [hp, hr]
  rfl

/-- From any memory, the reference terminates with `linear` of its arguments as its result and its arguments unchanged. -/
theorem run_linear (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20)
          = linear (m ((c.tc : Thread nD τ).loc main_arg0)) (m ((c.tc : Thread nD τ).loc main_arg1))
            (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) := run m ρ

end Cert.ReferenceIdeal.Value

end
-- ==== Proof.Value.lean ====
/- The kernel's result at the ideal numbers is the reference's function of the same arguments. Hand-written. -/
module

public import proofs.«01_k».proof.Proof.Gen.KernelIdeal.Frame
public import proofs.«01_k».proof.Proof.Nibbles
public import proofs.«01_k».proof.Proof.Reference
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen
open Cert.ReferenceIdeal.Value (linear linear_at)

/-- The body's block at an index: the inner product of a row of activations with a column of the block's weights, an even row of
    the weights being the low nibble of its byte and an odd row the high nibble. -/
theorem block_at (w : IVec S4480x1024 8) (z : IVec S70x1024 8) (s : FVec Ideal S70x1024 .bf16) (x : FVec Ideal S192x8960 .bf16)
    (b : Fin 192) (l : Fin 1024) :
    k0_pay1 (F := Ideal) w z s x (ix2 b l) = ∑ k : Fin 8960, x (ix2 b k) *
      (((FloatOps.sitofp .bf16 (if k.val % 2 < 1
          then IntOp.andi (BitVec.setWidth 32 (w (ix2 (⟨k.val / 2, by omega⟩ : Fin 4480) l))) 15#32
          else IntOp.shrsi .host (BitVec.setWidth 32 (w (ix2 (⟨k.val / 2, by omega⟩ : Fin 4480) l))) 4#32) : Ideal .bf16)
        - FloatOps.sitofp .bf16 (BitVec.setWidth 32 (z (ix2 (⟨k.val / 128, by omega⟩ : Fin 70) l))))
        * s (ix2 (⟨k.val / 128, by omega⟩ : Fin 70) l)) := by
  pointwise [k0_pay1]
  refine Finset.sum_congr rfl fun k _ => ?_
  rw [Nibbles.zero_point]
  split
  · rw [Nibbles.low_nibble]
  · rw [Nibbles.high_nibble]

/-- Which block each window reads or writes at a grid point: the activations always whole, the other arrays by their column. -/
theorem idx : ∀ t : Fin cfg0.N, win0_0.index t = ![0, 0] ∧ win0_1.index t = ![0, t.val] ∧ win0_2.index t = ![0, t.val]
    ∧ win0_3.index t = ![0, t.val] ∧ win0_4.index t = ![0, t.val] :=
  (by decide +kernel : ∀ t : Fin grid0.N, _)

variable (m : (ℓ : Loc nD τ sig) → Buf (Elt Ideal) ℓ)

/-- The reference's function of the kernel's arguments. -/
abbrev target (c : Dev nD) : FVec Ideal S192x1x5120 .bf16 :=
  linear (m ((c.tc : Thread nD τ).loc main_arg0)) (m ((c.tc : Thread nD τ).loc main_arg1))
    (m ((c.tc : Thread nD τ).loc main_arg2)) (m ((c.tc : Thread nD τ).loc main_arg3))

/-- The array that the grid reads the activations from is the first argument with its unit axis dropped. -/
theorem activations (c : Dev nD) :
    V m c main_v0 = fun i : S192x8960.Idx => m ((c.tc : Thread nD τ).loc main_arg0) (ix3 (i 0) 0 (i 1)) := by
  funext i
  idx_vars i
  show StableHlo.after hostOps0 (fun b => m (c, b)) (Proc.devRef .tc main_v0) (ix2 i0 i1) = _
  unfold hostOps0
  after_results
  pointwise

/-- The array that the grid leaves is the reference's result with its unit axis dropped. -/
theorem final (c : Dev nD) :
    (dats m 0 c).arrAt 4 cfg0.N = fun i : S192x5120.Idx => target m c (ix3 (i 0) 0 (i 1)) := by
  refine (dats m 0 c).arrAt_eq_of_covers 4 _ (by decide +kernel) fun t _ y => ?_
  blk_simp
  rw [after0_4]
  frame_out
  idx_vars y
  refine (block_at _ _ _ _ _ _).trans (Eq.trans ?_ (linear_at _ _ _ _ _ _ _).symm)
  blk_point [iblk, V, idx t]
  refine (congrFun (activations m c) _).trans ?_
  blk_ext [idx t]

/-- The array that the kernel returns is the grid's array with the unit axis put back: the reference's result. -/
theorem result (c : Dev nD) : Pipeline.afterTail₀ cfgs (dats m) 0 (V0 m) [hostOps1] c main_v2 = target m c := by
  unfold Pipeline.afterTail₀
  show StableHlo.after hostOps1 _ (Proc.devRef .tc main_v2) = _
  unfold hostOps1
  after_results
  show shapeCast S192x1x5120 (Pipeline.withArrays spec0 c (V0 m c) (fun w => (dats m 0 c).arrAt w cfg0.N)
    (Proc.devRef .tc (Pipeline.arrRef spec0 4))) shapeCasts_S192x5120_S192x1x5120 = _
  rw [Pipeline.withArrays_arr spec0 launch0.win.arr_inj c _ _ 4, final]
  funext i
  idx_vars i
  pointwise
  rw [Subsingleton.elim i1 0]

variable (ρ : Dev nD → PrngReg)

/-- From any memory, the kernel terminates with the reference's function of its arguments as its result and its arguments
    unchanged. -/
theorem run : θ_run defs (onTc (τ := τ) (main (F := Ideal))) ⟨m, fun _ => 0, ρ⟩ fun r => ∀ c : Dev nD,
    r.2.mem ((c.tc : Thread nD τ).loc main_v2) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  run_from run_main m ρ
  · exact result m c
  · exact W_main_arg0 m (dats m) c

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Nibbles
public import proofs.«01_k».proof.Proof.Reference
public import proofs.«01_k».proof.Proof.Value
public import Idealize.ShloMosaic.Adequacy
public import Idealize.ShloMosaic.Init

@[expose] public section

noncomputable section

namespace Cert.Proof

open Idealize.ShloMosaic Idealize.SL.Sem

/-- The reference terminates, leaves its arguments unchanged and every semaphore counter at zero. -/
theorem frame_reference : Cert.quiescent_ReferenceIdeal := by
  intro m g _
  exact θ_run_mono (Cert.ReferenceIdeal.Value.run m g) fun r h => ⟨fun c => (h c).2, sem_eq_zero_of_no_sems (by decide) r.2⟩

/-- At the ideal numbers the kernel and the reference end with equal results. -/
theorem algebraic : Cert.algebraic_KernelIdeal_ReferenceIdeal := by
  intro m g m' g' _ hagree
  refine ⟨fun c => Cert.KernelIdeal.Value.target m c, Cert.KernelIdeal.Value.run m g, ?_⟩
  refine θ_run_mono (Cert.ReferenceIdeal.Value.run_linear m' g') fun r h c => ⟨(h c).1.trans ?_, (h c).2⟩
  rw [(hagree c).1, (hagree c).2.1, (hagree c).2.2.1, (hagree c).2.2.2]

/-- Everything that the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
